-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_table [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_table [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_table [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_table : Cert.Pre_in_table.Facts),
    quiescent_Kernel (hKernel := hKernel)
    ∧ quiescent_KernelIdeal (hKernelIdeal := hKernelIdeal)
    ∧ quiescent_KernelIdeal_pre_in_table (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ preserves_Kernel_KernelIdeal
    ∧ algebraic_KernelIdeal_ReferenceIdeal_pre_in_table (hKernelIdeal := hKernelIdeal) (hReferenceIdeal := hReferenceIdeal) (hPre_in_table := hPre_in_table)
-- ==== Pre_in_table.lean ====
abbrev S4096x196 : Shape := ⟨2, ![4096, 196]⟩
abbrev S256x256 : Shape := ⟨2, ![256, 256]⟩
abbrev S196x256 : Shape := ⟨2, ![196, 256]⟩
abbrev S_ : Shape := ⟨0, ![]⟩

class Facts : Prop where
  bcast_S_S4096x196 : S_.BroadcastsInDim S4096x196 (![] : Fin 0 → Fin S4096x196.rank)
  reducesTo_S4096x196_S_d0_1 : S4096x196.ReducesTo [0, 1] S_
  h_S_ : 0 < S_.numel

variable [Facts]

def fn {F : FTy → Type} [FloatOps F] (main_arg0 : IVec S4096x196 32) (main_arg1 : FVec F S256x256 .f32) (main_arg2 : FVec F S196x256 .f32) : IVec S_ 1 :=
  let main_c : IVec S_ 32 := constantI S_ 32 0#32
  let main_v0 : IVec S4096x196 32 := broadcastInDim S4096x196 ![] bcast_S_S4096x196 main_c
  let main_v1 : IVec S4096x196 1 := cmpi .sge main_arg0 main_v0
  let main_c_0 : IVec S_ 32 := constantI S_ 32 256#32
  let main_v2 : IVec S4096x196 32 := broadcastInDim S4096x196 ![] bcast_S_S4096x196 main_c_0
  let main_v3 : IVec S4096x196 1 := cmpi .slt main_arg0 main_v2
  let main_v4 : IVec S4096x196 1 := andi main_v1 main_v3
  let main_c_1 : IVec S_ 1 := constantI S_ 1 1#1
  let main_v5 : IVec S_ 1 := (fun x v => Host.reduce IntOp.andi x v reducesTo_S4096x196_S_d0_1 h_S_) main_v4 main_c_1
  main_v5
-- ==== Kernel.lean ====
abbrev S4096x196 : Shape := ⟨2, ![4096, 196]⟩
abbrev S256x256 : Shape := ⟨2, ![256, 256]⟩
abbrev S196x256 : Shape := ⟨2, ![196, 256]⟩
abbrev S256x196 : Shape := ⟨2, ![256, 196]⟩
abbrev S4096x256x196 : Shape := ⟨3, ![4096, 256, 196]⟩
abbrev S32x196 : Shape := ⟨2, ![32, 196]⟩
abbrev S32x256x196 : Shape := ⟨3, ![32, 256, 196]⟩
abbrev S1x196 : Shape := ⟨2, ![1, 196]⟩
abbrev S196 : Shape := ⟨1, ![196]⟩
abbrev S1x256x196 : Shape := ⟨3, ![1, 256, 196]⟩

abbrev nBuf : Space → Nat
  | .hbm => 7
  | .vmem => 6
  | .smem => 0
  | _ => 0

abbrev bufTy : (tb : Table) → Fin (tcTables nBuf tb) → BufTy
  | .hbm, ⟨0, _⟩ => ⟨S4096x196, .i32⟩
  | .hbm, ⟨1, _⟩ => ⟨S256x256, .f32⟩
  | .hbm, ⟨2, _⟩ => ⟨S196x256, .f32⟩
  | .hbm, ⟨3, _⟩ => ⟨S256x256, .f32⟩
  | .hbm, ⟨4, _⟩ => ⟨S256x256, .bf16⟩
  | .hbm, ⟨5, _⟩ => ⟨S256x196, .f32⟩
  | .hbm, ⟨6, _⟩ => ⟨S4096x256x196, .f32⟩
  | .local _ .vmem, ⟨0, _⟩ => ⟨S32x196, .i32⟩
  | .local _ .vmem, ⟨1, _⟩ => ⟨S32x196, .i32⟩
  | .local _ .vmem, ⟨2, _⟩ => ⟨S256x256, .bf16⟩
  | .local _ .vmem, ⟨3, _⟩ => ⟨S256x196, .f32⟩
  | .local _ .vmem, ⟨4, _⟩ => ⟨S32x256x196, .f32⟩
  | .local _ .vmem, ⟨5, _⟩ => ⟨S32x256x196, .f32⟩
  | _, _ => ⟨S4096x196, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x196 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x196 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x256x196 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x196 : Shape := ⟨2, ![4096, 196]⟩
abbrev S256x256 : Shape := ⟨2, ![256, 256]⟩
abbrev S196x256 : Shape := ⟨2, ![196, 256]⟩
abbrev S_ : Shape := ⟨0, ![]⟩
abbrev S4096x196x1 : Shape := ⟨3, ![4096, 196, 1]⟩
abbrev S1 : Shape := ⟨1, ![1]⟩
abbrev S1x1x1 : Shape := ⟨3, ![1, 1, 1]⟩
abbrev S4096x196x256 : Shape := ⟨3, ![4096, 196, 256]⟩
abbrev S1x196x256 : Shape := ⟨3, ![1, 196, 256]⟩
abbrev S4096x256x196 : Shape := ⟨3, ![4096, 256, 196]⟩

abbrev nBuf : Space → Nat
  | .hbm => 30
  | .vmem => 0
  | .smem => 0
  | _ => 0

abbrev bufTy : (tb : Table) → Fin (tcTables nBuf tb) → BufTy
  | .hbm, ⟨0, _⟩ => ⟨S4096x196, .i32⟩
  | .hbm, ⟨1, _⟩ => ⟨S256x256, .f32⟩
  | .hbm, ⟨2, _⟩ => ⟨S196x256, .f32⟩
  | .hbm, ⟨3, _⟩ => ⟨S_, .i32⟩
  | .hbm, ⟨4, _⟩ => ⟨S4096x196, .i32⟩
  | .hbm, ⟨5, _⟩ => ⟨S4096x196, .i1⟩
  | .hbm, ⟨6, _⟩ => ⟨S_, .i32⟩
  | .hbm, ⟨7, _⟩ => ⟨S4096x196, .i32⟩
  | .hbm, ⟨8, _⟩ => ⟨S4096x196, .i32⟩
  | .hbm, ⟨9, _⟩ => ⟨S4096x196, .i32⟩
  | .hbm, ⟨10, _⟩ => ⟨S4096x196x1, .i32⟩
  | .hbm, ⟨11, _⟩ => ⟨S1, .i32⟩
  | .hbm, ⟨12, _⟩ => ⟨S_, .i32⟩
  | .hbm, ⟨13, _⟩ => ⟨S4096x196x1, .i32⟩
  | .hbm, ⟨14, _⟩ => ⟨S4096x196x1, .i1⟩
  | .hbm, ⟨15, _⟩ => ⟨S1x1x1, .i32⟩
  | .hbm, ⟨16, _⟩ => ⟨S4096x196x1, .i32⟩
  | .hbm, ⟨17, _⟩ => ⟨S4096x196x1, .i1⟩
  | .hbm, ⟨18, _⟩ => ⟨S4096x196x1, .i1⟩
  | .hbm, ⟨19, _⟩ => ⟨S_, .i1⟩
  | .hbm, ⟨20, _⟩ => ⟨S4096x196, .i1⟩
  | .hbm, ⟨21, _⟩ => ⟨S4096x196x256, .f32⟩
  | .hbm, ⟨22, _⟩ => ⟨S4096x196x256, .i1⟩
  | .hbm, ⟨23, _⟩ => ⟨S_, .f32⟩
  | .hbm, ⟨24, _⟩ => ⟨S4096x196x256, .f32⟩
  | .hbm, ⟨25, _⟩ => ⟨S4096x196x256, .f32⟩
  | .hbm, ⟨26, _⟩ => ⟨S1x196x256, .f32⟩
  | .hbm, ⟨27, _⟩ => ⟨S4096x196x256, .f32⟩
  | .hbm, ⟨28, _⟩ => ⟨S4096x196x256, .f32⟩
  | .hbm, ⟨29, _⟩ => ⟨S4096x256x196, .f32⟩
  | _, _ => ⟨S4096x196, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩

abbrev nD : Nat := 1
abbrev τ : Topo := Topo.v7x

variable {F : FTy → Type} [FloatOps F]
-- ==== Proof.Lookup.lean ====
/-
  THE LOOKUP AS MATHEMATICS. A table row picked by an index word is the same number whether it is read directly or
  summed against a one-hot column: over the extended reals `0 * t = 0` for every `t`, infinities included, so the sum
  of `table row * indicator` over all rows leaves the one row whose number is the word.

  `hot k w` is the indicator "row `k` is the one the word `w` names"; `embed` is the array that the kernel is shown to
  compute, one function of the three arguments, index by index; `sum_hot` evaluates its sum when the word is in range.
-/
module

public import proofs.«01_k».proof.Proof.Gen.KernelIdeal
public import Idealize.ShloMosaic.Lib.ValueIdxCore
public import Idealize.ShloMosaic.PureOps.Ideal

@[expose] public section

noncomputable section

namespace Cert.Lookup

open Idealize.ShloMosaic Idealize.ShloMosaic.ValueIdx
open scoped BigOperators

/-- The indicator that row number `k` is the one the word `w` names. -/
def hot (k : Fin 256) (w : BitVec 32) : EReal := if BitVec.ofNat 32 k.val = w then 1 else 0

/-- A row number names itself and no other word. -/
theorem ofNat_eq_iff (k : Fin 256) (w : BitVec 32) : BitVec.ofNat 32 k.val = w ↔ k.val = w.toNat := by
  have hk := k.isLt
  constructor
  · rintro rfl
    rw [BitVec.toNat_ofNat, Nat.mod_eq_of_lt (by omega)]
  · intro h
    rw [h, BitVec.ofNat_toNat, BitVec.setWidth_eq]

/-- A column of the table summed against the one-hot column of an in-range word is the entry of the named row. -/
theorem sum_hot (f : Fin 256 → EReal) (w : BitVec 32) (hw : w.toNat < 256) :
    ∑ k : Fin 256, f k * hot k w = f ⟨w.toNat, hw⟩ := by
  rw [Finset.sum_eq_single (⟨w.toNat, hw⟩ : Fin 256)]
  · unfold hot
    rw [if_pos ((ofNat_eq_iff _ w).2 rfl), mul_one]
  · intro k _ hk
    unfold hot
    rw [if_neg (fun h => hk (Fin.ext ((ofNat_eq_iff k w).1 h))), mul_zero]
  · intro h
    exact absurd (Finset.mem_univ _) h

/-- The result's element (image `b`, state `s`, pixel `p`): the one-hot sum down column `s` of the table for the word
    `x[b, p]`, plus the position table's entry `(p, s)`. -/
def embed (x : IVec Cert.KernelIdeal.S4096x196 32) (tab : FVec Ideal Cert.KernelIdeal.S256x256 .f32)
    (pos : FVec Ideal Cert.KernelIdeal.S196x256 .f32) : FVec Ideal Cert.KernelIdeal.S4096x256x196 .f32 := fun i =>
  ((∑ k : Fin 256, (tab (ix2 k (i 1)) : EReal) * hot k (x (ix2 (i 0) (i 2)))) + (pos (ix2 (i 2) (i 1)) : EReal) : EReal)

end Cert.Lookup

end
-- ==== Proof.Block.lean ====
/-
  WHAT ONE GRID STEP COMPUTES. The body stores 32 slabs, one per image of the block; each is the product of the staged
  transposed table with the one-hot matrix of that image's index row, plus the staged transposed position table. Every
  slab is one and the same function of its index row (`slab_apply`, proved once), so the 32 stores together leave the
  block at ONE function `block` of the three staged inputs (`out_eq`).
-/
module

public import proofs.«01_k».proof.Proof.Lookup
public import proofs.«01_k».proof.Proof.Gen.KernelIdeal.Frame
public import Idealize.ShloMosaic.Lib.Pipeline.Value
public import Idealize.ShloMosaic.Lib.MatmulPlain
public import Idealize.ShloMosaic.PureOps.Ideal

@[expose] public section

noncomputable section

namespace Cert.KernelIdeal.Block

open Cert.KernelIdeal Cert.KernelIdeal.Gen Cert.Lookup
open Idealize.ShloMosaic Idealize.ShloMosaic.ValueIdx
open scoped BigOperators

/-- The staged block's element (image `b`, state `s`, pixel `p`): the one-hot sum along row `s` of the transposed table
    for the word `x0[b, p]`, plus the transposed position table's entry `(s, p)`. -/
def block (x0 : Vec Ideal S32x196 .i32) (x1 : Vec Ideal S256x256 .bf16) (x2 : Vec Ideal S256x196 .f32) :
    Vec Ideal S32x256x196 .f32 := fun i =>
  ((∑ k : Fin 256, (x1 (ix2 (i 1) k) : EReal) * hot k (x0 (ix2 (i 0) (i 2)))) + (x2 (ix2 (i 1) (i 2)) : EReal) : EReal)

/-- A comparison's bit, widened and converted to a float, is the indicator. -/
theorem hot_word (k : Fin 256) (w : BitVec 32) :
    ((((IntOp.cmpi .eq (BitVec.ofNat 32 k.val) w).setWidth 32).toInt : ℝ) : EReal) = hot k w := by
  unfold hot
  by_cases h : BitVec.ofNat 32 k.val = w
  · rw [if_pos h, h]
    simp [IntOp.cmpi]
  · rw [if_neg h]
    have e : (BitVec.ofNat 32 k.val == w) = false := by simpa using h
    simp [IntOp.cmpi, e]

/-- The one-hot matrix of an index row, at (row `k`, pixel `p`). -/
theorem onehot_apply (v5 : Vec Ideal S1x196 .i32) (k : Fin 256) (p : Fin 196)
    (hb : S1x196.Broadcasts S256x196) (hi : S256x196.Iotas .tc 32 [0]) :
    cmpi .eq (iota .tc S256x196 32 [0] hi) (broadcastTo S256x196 v5 hb) (ix2 k p)
      = IntOp.cmpi .eq (BitVec.ofNat 32 k.val) (v5 (ix2 0 p)) := by
  show IntOp.cmpi .eq (iota .tc S256x196 32 [0] hi (ix2 k p)) (broadcastTo S256x196 v5 hb (ix2 k p)) = _
  rw [iota_single_apply, broadcastTo_apply v5 hb (ix2 k p) (ix2 0 p) (by intro a; fin_cases a <;> rfl)]

/-- One slab of the body, read at (state `s`, pixel `p`). -/
theorem slab_apply (v0 : Vec Ideal S256x256 .bf16) (v2 : Vec Ideal S256x196 .f32) (v5 : Vec Ideal S1x196 .i32)
    (j : S1x256x196.Idx) :
    k0_pay3 v0 v2 v5 j
      = ((∑ k : Fin 256, (v0 (ix2 (j 1) k) : EReal) * hot k (v5 (ix2 0 (j 2)))) + (v2 (ix2 (j 1) (j 2)) : EReal)
          : EReal) := by
  unfold k0_pay3 k0_pay1 k0_pay2
  dsimp only
  rw [shapeCast_self v0, shapeCast_self v2, shapeCast_shapeCast v5]
  refine (shapeCast_addUnit_apply ![256, 196] _ _ j).trans ?_
  have e : (fun a : Fin 2 => j a.succ) = ix2 (j 1) (j 2) := by
    funext a; fin_cases a <;> rfl
  rw [e]
  refine congrArg₂ (fun a b : EReal => a + b) ?_ rfl
  refine (Ideal.matmul_plain_apply none _ _ _ (j 1) (j 2)).trans ?_
  refine (congrArg₂ (fun a b : EReal => a + b) (by simp [constant, Ideal.ofBits, Ideal.ieee]) rfl).trans (zero_add _) |>.trans ?_
  refine Finset.sum_congr rfl fun k _ => congrArg (fun b : EReal => _ * b) ?_
  refine Eq.trans ?_ (hot_word k (v5 (ix2 0 (j 2))))
  rw [← onehot_apply v5 k (j 2) broadcasts_S1x196_S256x196 iota_S256x196_d0_w32]
  rfl

/-- The slab stored for image `o` is rows `o` of `block`, whatever the image. -/
theorem slab_block (x0 : Vec Ideal S32x196 .i32) (x1 : Vec Ideal S256x256 .bf16) (x2 : Vec Ideal S256x196 .f32) (o : Nat)
    (hin : ∀ a : Fin S32x196.rank, (![o, 0] : Fin 2 → Nat) a + S1x196.size a ≤ S32x196.size a)
    (hout : ∀ a : Fin S32x256x196.rank, (![o, 0, 0] : Fin 3 → Nat) a + S1x256x196.size a ≤ S32x256x196.size a)
    (j : S1x256x196.Idx) :
    k0_pay3 (View.ld x1 r0_0) (View.ld x2 r0_1) (View.ld x0 (Rect.unit (s := S32x196) ![o, 0] S1x196.size hin)) j
      = block x0 x1 x2 ((Rect.unit (s := S32x256x196) ![o, 0, 0] S1x256x196.size hout).emb j) := by
  have hz : (![0, 0] : Fin 2 → Nat) = fun _ => 0 := by funext a; fin_cases a <;> rfl
  have h0 : (j 0).val = 0 := by have := (j 0).isLt; simp at this; omega
  rw [slab_apply, View.ld_unit_zero hz, View.ld_unit_zero hz]
  have e1 : (Rect.unit (s := S32x256x196) ![o, 0, 0] S1x256x196.size hout).emb j 1 = j 1 :=
    Fin.ext (show 0 + 1 * (j 1).val = (j 1).val by omega)
  have e2 : (Rect.unit (s := S32x256x196) ![o, 0, 0] S1x256x196.size hout).emb j 2 = j 2 :=
    Fin.ext (show 0 + 1 * (j 2).val = (j 2).val by omega)
  have e0 : (Rect.unit (s := S32x196) ![o, 0] S1x196.size hin).emb (ix2 0 (j 2))
      = ix2 ((Rect.unit (s := S32x256x196) ![o, 0, 0] S1x256x196.size hout).emb j 0) (j 2) := by
    funext a
    match a with
    | ⟨0, _⟩ => exact Fin.ext (show o + 1 * 0 = o + 1 * (j 0).val by omega)
    | ⟨1, _⟩ => exact Fin.ext (show 0 + 1 * (j 2).val = (j 2).val by omega)
  unfold block
  rw [e1, e2]
  exact congrArg (fun u : S32x196.Idx => ((∑ k : Fin 256, (x1 (ix2 (j 1) k) : EReal) * hot k (x0 u))
    + (x2 (ix2 (j 1) (j 2)) : EReal) : EReal)) e0

/-- The 32 stores leave the staged output block at `block` of the staged inputs. -/
theorem out_eq (x0 : Vec Ideal S32x196 .i32) (x1 : Vec Ideal S256x256 .bf16) (x2 : Vec Ideal S256x196 .f32) :
    out0_3 x0 x1 x2 = block x0 x1 x2 := by
  funext y
  unfold_out out0_3
  refine View.canon_apply_of_pieces (block x0 x1 x2) _ ?_ y (cover0_3 _ _ _ _ _ _ _ _ _ _ _ _ _ _ _ _ _ _ _ _ _ _ _ _ _ _ _ _ _ _ _ _ y)
  simp only [List.forall_mem_cons, List.not_mem_nil, false_imp_iff, implies_true, and_true]
  repeat' apply And.intro
  all_goals exact slab_block x0 x1 x2 _ _ _

end Cert.KernelIdeal.Block

end
-- ==== Proof.Array.lean ====
/-
  THE KERNEL'S WHOLE RESULT. Grid point `t` writes images `32 t … 32 t + 31` of the result; what it writes there is that
  stretch of `Lookup.embed` of the three arguments (`flushed_eq`): the staged index rows are those images' rows, and the
  two staged tables are the host's transposes of the arguments, whole at every point (the narrowing of the first is the
  identity on extended reals). The 128 stretches tile the array (`cover`), so the run ends with the whole
  result at `Lookup.embed` (`run`).
-/
module

public import proofs.«01_k».proof.Proof.Block
public import proofs.«01_k».proof.Proof.Gen.KernelIdeal.Value

@[expose] public section

set_option maxRecDepth 16384

noncomputable section

namespace Cert.KernelIdeal.RefValue

open Cert.KernelIdeal Cert.KernelIdeal.Gen Cert.KernelIdeal.Block Cert.Lookup
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- What the result array is shown to hold: `embed` of device `c`'s three arguments. -/
abbrev final (c : Dev nD) : Buf (Elt Ideal) ((c : Thread nD τ).loc main_v0) :=
  embed (m ((c : Thread nD τ).loc main_arg0)) (m ((c : Thread nD τ).loc main_arg1)) (m ((c : Thread nD τ).loc main_arg2))

/-- The region finds the first staged table at the transpose of the table argument. -/
theorem table_entry (c : Dev nD) : V m c main_call0_v1 = truncf (F := Ideal) (s := S256x256) (φ := .f32) .bf16
    (transpose S256x256 [1, 0] (m ((c : Thread nD τ).loc main_arg1)) transposes_S256x256_S256x256_1_0) bitsLt_bf16_f32 := by
  unfold V
  simp only [hostOps0, List.flatten_cons, List.flatten_nil, List.append_nil]
  after_results <;> rfl

/-- The region finds the second staged table at the transpose of the position argument. -/
theorem position_entry (c : Dev nD) : V m c main_call0_v2
    = transpose S256x196 [1, 0] (m ((c : Thread nD τ).loc main_arg2)) transposes_S196x256_S256x196_1_0 := by
  unfold V
  simp only [hostOps0, List.flatten_cons, List.flatten_nil, List.append_nil]
  after_results <;> rfl

/-- Where each window's block starts, at every grid point. -/
theorem starts : ∀ t : Fin cfg0.N,
    (win0_0.index t 0 = t.val ∧ win0_0.index t 1 = 0) ∧ (win0_1.index t 0 = 0 ∧ win0_1.index t 1 = 0)
      ∧ (win0_2.index t 0 = 0 ∧ win0_2.index t 1 = 0)
      ∧ (win0_3.index t 0 = t.val ∧ win0_3.index t 1 = 0 ∧ win0_3.index t 2 = 0) :=
  (by decide +kernel : ∀ t : Fin grid0.N,
    (win0_0.index t 0 = t.val ∧ win0_0.index t 1 = 0) ∧ (win0_1.index t 0 = 0 ∧ win0_1.index t 1 = 0)
      ∧ (win0_2.index t 0 = 0 ∧ win0_2.index t 1 = 0)
      ∧ (win0_3.index t 0 = t.val ∧ win0_3.index t 1 = 0 ∧ win0_3.index t 2 = 0))

/-- The staged index block at point `t`, row `b`, is row `32 t + b` of the index argument. -/
theorem rows_apply (c : Dev nD) (t : Fin cfg0.N) (b : Fin 32) (p : Fin 196) (r : Fin 4096) (hr : r.val = t.val * 32 + b.val) :
    iblk m c 0 t (ix2 b p) = m ((c : Thread nD τ).loc main_arg0) (ix2 r p) := by
  have e := (starts t).1
  refine Eq.trans ?_ (congrFun (V_main_arg0 m c) (ix2 r p))
  refine congrArg (V m c main_arg0) (funext fun a => ?_)
  match a with
  | ⟨0, _⟩ => exact Fin.ext (show win0_0.index t 0 * 32 + 1 * b.val = r.val by rw [e.1]; omega)
  | ⟨1, _⟩ => exact Fin.ext (show win0_0.index t 1 * 196 + 1 * p.val = p.val by rw [e.2]; omega)

/-- The staged table at every point, at (state `s`, row `k`), is the table argument at (row `k`, state `s`). -/
theorem table_apply (c : Dev nD) (t : Fin cfg0.N) (s k : Fin 256) :
    iblk m c 1 t (ix2 s k) = m ((c : Thread nD τ).loc main_arg1) (ix2 k s) := by
  have e := (starts t).2.1
  have e' : iblk m c 1 t (ix2 s k) = V m c main_call0_v1 (ix2 s k) := by
    refine congrArg (V m c main_call0_v1) (funext fun a => ?_)
    match a with
    | ⟨0, _⟩ => exact Fin.ext (show win0_1.index t 0 * 256 + 1 * s.val = s.val by rw [e.1]; omega)
    | ⟨1, _⟩ => exact Fin.ext (show win0_1.index t 1 * 256 + 1 * k.val = k.val by rw [e.2]; omega)
  rw [e', table_entry]
  exact transpose_apply (perm := [1, 0]) _ transposes_S256x256_S256x256_1_0 (ix2 s k) (ix2 k s) (by intro a; fin_cases a <;> rfl)

/-- The staged position table at every point, at (state `s`, pixel `p`), is the position argument at `(p, s)`. -/
theorem position_apply (c : Dev nD) (t : Fin cfg0.N) (s : Fin 256) (p : Fin 196) :
    iblk m c 2 t (ix2 s p) = m ((c : Thread nD τ).loc main_arg2) (ix2 p s) := by
  have e := (starts t).2.2.1
  have e' : iblk m c 2 t (ix2 s p) = V m c main_call0_v2 (ix2 s p) := by
    refine congrArg (V m c main_call0_v2) (funext fun a => ?_)
    match a with
    | ⟨0, _⟩ => exact Fin.ext (show win0_2.index t 0 * 256 + 1 * s.val = s.val by rw [e.1]; omega)
    | ⟨1, _⟩ => exact Fin.ext (show win0_2.index t 1 * 196 + 1 * p.val = p.val by rw [e.2]; omega)
  rw [e', position_entry]
  exact transpose_apply _ _ _ (ix2 s p) (ix2 p s) (by intro a; fin_cases a <;> rfl)

/-- The staged result block at point `t` is `embed` of the arguments, read 32 t images on. -/
theorem block_apply (c : Dev nD) (t : Fin cfg0.N) (j : S32x256x196.Idx) (i : S4096x256x196.Idx)
    (h0 : (i 0).val = t.val * 32 + (j 0).val) (h1 : (i 1).val = (j 1).val) (h2 : (i 2).val = (j 2).val) :
    block (iblk m c 0 t) (iblk m c 1 t) (iblk m c 2 t) j = final m c i := by
  have e1 : (i 1 : Fin 256) = j 1 := Fin.ext h1
  have e2 : (i 2 : Fin 196) = j 2 := Fin.ext h2
  unfold block final embed
  rw [e1, e2]
  refine congrArg₂ (fun a b : EReal => a + b) (Finset.sum_congr rfl fun k _ => congrArg₂ (fun a b : EReal => a * b) ?_ ?_) ?_
  · exact table_apply m c t (j 1) k
  · exact congrArg (hot k) (rows_apply m c t (j 0) (j 2) (i 0) h0)
  · exact position_apply m c t (j 1) (j 2)

/-- What point `t` writes back is its block of `embed` of the arguments. -/
theorem flushed_eq (c : Dev nD) (t : Fin cfg0.N) :
    (dats m 0 c).flushed 3 t = ((cfg0.win 3).blk t).view.read (Elt Ideal) (final m c) := by
  have e := (starts t).2.2.2
  rw [Value.flushed3, out_eq]
  funext j
  refine block_apply m c t j _ ?_ ?_ ?_
  · show win0_3.index t 0 * 32 + 1 * (j 0).val = _
    rw [e.1]; omega
  · show win0_3.index t 1 * 256 + 1 * (j 1).val = _
    rw [e.2.1]; omega
  · show win0_3.index t 2 * 196 + 1 * (j 2).val = _
    rw [e.2.2]; omega

/-- Every result index lies in the block of the point its image number names. -/
theorem cover (i : S4096x256x196.Idx) :
    ∃ t : Fin cfg0.N, (cfg0.win 3).flush t = true ∧ i ∈ ((cfg0.win 3).blk t).view.set := by
  have h0 : (i 0 : Nat) < 4096 := (i 0).isLt
  have h1 : (i 1 : Nat) < 256 := (i 1).isLt
  have h2 : (i 2 : Nat) < 196 := (i 2).isLt
  have hN : cfg0.N = 128 := N_0
  have ht : (i 0 : Nat) / 32 < cfg0.N := by omega
  refine ⟨⟨(i 0 : Nat) / 32, ht⟩, flush0_3 _, ?_⟩
  have e := (starts ⟨(i 0 : Nat) / 32, ht⟩).2.2.2
  show i ∈ ((View.whole main_v0).slice (win0_3.rect ⟨(i 0 : Nat) / 32, ht⟩)).set
  rw [View.set_slice_whole, Rect.mem_set_unit]
  intro a
  match a with
  | ⟨0, _⟩ =>
    show win0_3.index ⟨(i 0 : Nat) / 32, ht⟩ 0 * 32 ≤ (i 0 : Nat) ∧ (i 0 : Nat) < win0_3.index ⟨(i 0 : Nat) / 32, ht⟩ 0 * 32 + 32
    rw [e.1]; dsimp only; omega
  | ⟨1, _⟩ =>
    show win0_3.index ⟨(i 0 : Nat) / 32, ht⟩ 1 * 256 ≤ (i 1 : Nat) ∧ (i 1 : Nat) < win0_3.index ⟨(i 0 : Nat) / 32, ht⟩ 1 * 256 + 256
    rw [e.2.1]; omega
  | ⟨2, _⟩ =>
    show win0_3.index ⟨(i 0 : Nat) / 32, ht⟩ 2 * 196 ≤ (i 2 : Nat) ∧ (i 2 : Nat) < win0_3.index ⟨(i 0 : Nat) / 32, ht⟩ 2 * 196 + 196
    rw [e.2.2]; omega

/-- So the result array ends at `embed` of the arguments. -/
theorem result_eq (c : Dev nD) : (dats m 0 c).arrAt 3 cfg0.N = final m c :=
  (dats m 0 c).arrAt_eq_of_cover 3 (final m c) (fun t _ => flushed_eq m c t) cover

/-- The kernel's run: the result array at `embed` of the arguments, the arguments unchanged. -/
theorem run : θ_run defs (onTc (τ := τ) (main (F := Ideal))) ⟨m, fun _ => 0, ρ⟩ fun r => ∀ c : Dev nD,
      r.2.mem ((c : Thread nD τ).loc main_v0) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (result_eq m c), (h c).2⟩) (Value.run_blocks m ρ)

end Cert.KernelIdeal.RefValue

end
-- ==== Proof.Reference.lean ====
/-
  THE REFERENCE'S WHOLE RESULT, FOR INDICES IN THE TABLE. `jnp.take` along axis 0 lowers to: an index below 0 moved up by
  256, a gather of the table's row at the index read signed and clamped into 0 … 255, and a select of the gathered row or
  a NaN by whether the index lies in 0 … 255. For words in 0 … 255 the first step changes nothing, the clamp
  changes nothing and the select takes the gathered row (`taken_apply`); so the reference's result is the table's entry
  at the named row plus the position entry, transposed, which is `Lookup.embed` (`reference_eq`).
-/
module

public import proofs.«01_k».proof.Proof.Lookup
public import proofs.«01_k».proof.Proof.Gen.ReferenceIdeal.Read
public import proofs.«01_k».proof.Proof.Gen.Pre_in_table
public import Idealize.ShloMosaic.Lib.ReduceAll

@[expose] public section

set_option maxRecDepth 16384

noncomputable section

namespace Cert.ReferenceIdeal.Take

open Cert.ReferenceIdeal Cert.ReferenceIdeal.Gen Cert.ReferenceIdeal.Read Cert.Lookup
open Idealize.ShloMosaic Idealize.ShloMosaic.ValueIdx
open scoped BigOperators

/-! ## The precondition read back -/

/-- A word names a row of the table: it is at least 0 and below 256 as a signed number. -/
def InTable (w : BitVec 32) : Prop := 0 ≤ w.toInt ∧ w.toInt < 256

/-- The precondition says every index word names a row of the table. -/
theorem inTable_of_pre (x : IVec S4096x196 32) (tab : FVec Ideal S256x256 .f32) (pos : FVec Ideal S196x256 .f32)
    (h : Cert.Pre_in_table.fn (F := Ideal) x tab pos = fun _ => 1#1) (i : S4096x196.Idx) : InTable (x i) := by
  have hs : Subsingleton Cert.Pre_in_table.S_.Idx := ⟨fun a b => funext fun d => d.elim0⟩
  have e := Host.reduce_andi_all _ _ _ _ _ (congrFun h (fun d => d.elim0)) i
  obtain ⟨e0, e1⟩ := IntOp.andi_eq_one.1 e
  have e0' : IntOp.cmpi .sge (x i) 0#32 = 1#1 := e0
  have e1' : IntOp.cmpi .slt (x i) 256#32 = 1#1 := e1
  exact ⟨IntOp.cmpi_sge.1 e0', IntOp.cmpi_slt.1 e1'⟩

/-- A word that names a row is below 256 as an unsigned number, -/
theorem InTable.toNat_lt {w : BitVec 32} (h : InTable w) : w.toNat < 256 := by
  unfold InTable at h
  rw [BitVec.toInt_eq_toNat_cond] at h
  have := w.isLt
  split at h <;> omega

/-- and its signed reading is its unsigned one. -/
theorem InTable.toInt_eq {w : BitVec 32} (h : InTable w) : w.toInt = w.toNat := by
  have := h.toNat_lt
  rw [BitVec.toInt_eq_toNat_cond, if_pos (by omega)]

/-! ## The lookup -/

variable (x : (⟨S4096x196, .i32⟩ : BufTy).Contents (Elt Ideal)) (tab : (⟨S256x256, .f32⟩ : BufTy).Contents (Elt Ideal))
  (pos : (⟨S196x256, .f32⟩ : BufTy).Contents (Elt Ideal))

/-- An index that names a row is not moved. -/
theorem moved_apply (i : S4096x196.Idx) (h : InTable (x i)) : val_main_call0_v4 (F := Ideal) x i = x i := by
  rw [val_main_call0_v4_apply, val_main_call0_v1_apply, val_main_call0_v0_apply, val_main_call0_c_apply]
  have e : IntOp.cmpi .slt (x i) 0#32 = 0#1 := by
    refine (BitVec.eq_zero_or_eq_one _).resolve_right fun hc => ?_
    have h1 : (x i).toInt < 0 := IntOp.cmpi_slt.1 hc
    exact absurd h.1 (by omega)
  rw [e, select_zero]

/-- The start word of the gather at (image `b`, pixel `p`) is the index word there, when it names a row. -/
theorem start_apply (hx : ∀ i, InTable (x i)) (i : S4096x196x1.Idx) :
    val_main_call0_v5 (F := Ideal) x i = x (idx_main_call0_v5 i) := by
  rw [val_main_call0_v5_apply, moved_apply x _ (hx _)]

/-- The range test passes everywhere when every index names a row. -/
theorem mask_apply (hx : ∀ i, InTable (x i)) (i : S4096x196x256.Idx) : val_main_call0_v14 (F := Ideal) x i = 1#1 := by
  rw [val_main_call0_v14_apply]
  unfold val_main_call0_v12
  refine Host.reduce_andi_one _ _ _ _ _ rfl fun k => ?_
  rw [val_main_call0_v11_apply, val_main_call0_v7_apply, val_main_call0_v10_apply, start_apply x hx,
    val_main_call0_v6_apply, val_main_call0_c_2_apply, val_main_call0_v9_apply, val_main_call0_v8_apply,
    val_main_call0_c_1_apply]
  have h := hx (idx_main_call0_v5 k)
  refine IntOp.andi_eq_one.2 ⟨IntOp.cmpi_sge.2 h.1, IntOp.cmpi_sle.2 ?_⟩
  have h2 : (255#32 : BitVec 32).toInt = 255 := by decide
  rw [h2]
  exact Int.le_of_lt_add_one h.2

/-- The row the gather reads at (image `b`, pixel `p`), column `s`: the start word's row, clamped into the table. -/
theorem gathered_apply (st : IVec S4096x196x1 32) (b : Fin 4096) (p : Fin 196) (s : Fin 256) :
    Host.gather gather_S256x256_S4096x196x1_S4096x196x256_2_0_n_n_0_2_1256 tab st (ix3 b p s)
      = tab (ix2 ⟨min (st (ix3 b p 0)).toInt.toNat 255, by omega⟩ s) := by
  unfold Host.gather
  refine congrArg tab (funext fun a => Fin.ext ?_)
  show (gather_S256x256_S4096x196x1_S4096x196x256_2_0_n_n_0_2_1256.start (ix3 b p s) st a
    + gather_S256x256_S4096x196x1_S4096x196x256_2_0_n_n_0_2_1256.batchCoord (ix3 b p s) a)
    + gather_S256x256_S4096x196x1_S4096x196x256_2_0_n_n_0_2_1256.offCoord (ix3 b p s) a = _
  have ha : a = 0 ∨ a = 1 := by
    match a with
    | ⟨0, _⟩ => exact Or.inl rfl
    | ⟨1, _⟩ => exact Or.inr rfl
  rw [GatherDims.batchCoord_eq_zero _ _ _ List.not_mem_nil, Nat.add_zero]
  rcases ha with rfl | rfl
  · rw [GatherDims.offCoord_eq_zero _ _ _ (fun h => ((GatherDims.mem_sKept _ _).mp h).1 (List.mem_singleton.mpr rfl)),
      Nat.add_zero]
    unfold GatherDims.start
    rw [dif_pos (show (0 : Fin 2) ∈ gather_S256x256_S4096x196x1_S4096x196x256_2_0_n_n_0_2_1256.startIndexMap from List.mem_singleton.mpr rfl)]
    refine congrArg (fun j => min (st j).toInt.toNat 255) (funext fun d => Fin.ext ?_)
    match d with
    | ⟨0, _⟩ => rfl
    | ⟨1, _⟩ => rfl
    | ⟨2, _⟩ => rfl
  · unfold GatherDims.start
    rw [dif_neg (show ¬(1 : Fin 2) ∈ gather_S256x256_S4096x196x1_S4096x196x256_2_0_n_n_0_2_1256.startIndexMap from
      fun h => absurd (List.mem_singleton.mp h) (by decide)), Nat.zero_add]
    rfl

/-- The taken table at (image `b`, pixel `p`, state `s`): the entry of column `s` in the row the index word names. -/
theorem taken_apply (hx : ∀ i, InTable (x i)) (b : Fin 4096) (p : Fin 196) (s : Fin 256) :
    val_main_v0 (F := Ideal) x tab (ix3 b p s) = tab (ix2 ⟨(x (ix2 b p)).toNat, (hx _).toNat_lt⟩ s) := by
  rw [val_main_v0_apply, mask_apply x hx, select_one]
  unfold val_main_call0_v13
  rw [gathered_apply]
  refine congrArg (fun r => tab (ix2 r s)) (Fin.ext ?_)
  have e : val_main_call0_v5 (F := Ideal) x (ix3 b p 0) = x (ix2 b p) :=
    (start_apply x hx _).trans (congrArg x (funext fun a => by match a with | ⟨0, _⟩ => rfl | ⟨1, _⟩ => rfl))
  show min (val_main_call0_v5 (F := Ideal) x (ix3 b p 0)).toInt.toNat 255 = (x (ix2 b p)).toNat
  have h := (hx (ix2 b p)).toNat_lt
  rw [e, (hx (ix2 b p)).toInt_eq, Int.toNat_natCast]
  omega

/-- The reference's result is `embed` of the arguments when every index names a row. -/
theorem reference_eq (hx : ∀ i, InTable (x i)) : val_main_v4 (F := Ideal) x tab pos = embed x tab pos := by
  funext i
  rw [val_main_v4_apply, val_main_v3_apply, val_main_v2_apply, val_main_v1_apply]
  have e : idx_main_v4 i = ix3 (i 0) (i 2) (i 1) :=
    funext fun a => by match a with | ⟨0, _⟩ => rfl | ⟨1, _⟩ => rfl | ⟨2, _⟩ => rfl
  have ep : idx_main_v1 (idx_main_v2 (idx_main_v4 i)) = ix2 (i 2) (i 1) :=
    funext fun a => by match a with | ⟨0, _⟩ => rfl | ⟨1, _⟩ => rfl
  rw [ep, e]
  unfold embed
  refine congrArg₂ (fun a b : EReal => a + b) ?_ rfl
  refine (taken_apply x tab hx (i 0) (i 2) (i 1)).trans ?_
  exact (sum_hot (fun k => tab (ix2 k (i 1))) (x (ix2 (i 0) (i 2))) (hx _).toNat_lt).symm

end Cert.ReferenceIdeal.Take

end
-- ==== Proof.lean ====
/-
  THE CERTIFICATE. The kernel looks up 196 state vectors per image in a 256-row table by a one-hot matrix product, 32
  images per grid step, and adds a position table; the reference is the plain lookup (`jnp.take`), the addition and a
  transpose. The claims:

    quiescent_Kernel, quiescent_KernelIdeal — the generated frames: every run ends, arguments unchanged, semaphores zero;
    quiescent_ReferenceIdeal                — the reference's generated run, read at the arguments;
    preserves_Kernel_KernelIdeal            — idealizing rewrote no operation;
    algebraic_KernelIdeal_ReferenceIdeal    — on extended reals, when every index names a row of the table, the kernel's
      whole result is the reference's. Both are `Lookup.embed` of the arguments: the kernel's by Proof/Block.lean (one
      grid step) and Proof/Array.lean (the array), the reference's by Proof/Reference.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_in_table
public import proofs.«01_k».proof.Proof.Array
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem

/-- The kernel's frame, on the machine's floats. -/
theorem frame_kernel : Cert.quiescent_Kernel := fun m ρ _ => Cert.Kernel.Gen.frame m ρ

/-- The kernel's frame, on extended reals, from every memory. -/
theorem frame_kernel_ideal : Cert.quiescent_KernelIdeal := fun m ρ _ => Cert.KernelIdeal.Gen.frame m ρ

/-- The same from the memories of the precondition. -/
theorem frame_kernel_ideal_pre : Cert.quiescent_KernelIdeal_pre_in_table := fun m ρ _ => Cert.KernelIdeal.Gen.frame m ρ

/-- The reference's frame, from every memory: its run read at the arguments; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from the memories of the precondition. -/
theorem frame_reference_pre : Cert.quiescent_ReferenceIdeal_pre_in_table := fun m ρ _ => frame_reference m ρ trivial

/-- On extended reals, when every index names a row of the table, the kernel's result is the reference's. -/
theorem algebraic : Cert.algebraic_KernelIdeal_ReferenceIdeal_pre_in_table := by
  intro m ρ m' ρ' hpre hagree
  refine ⟨fun c => Cert.KernelIdeal.RefValue.final m c, Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, (hagree c).1, (hagree c).2.1, (hagree c).2.2]
  exact Cert.ReferenceIdeal.Take.reference_eq _ _ _ (Cert.ReferenceIdeal.Take.inTable_of_pre _ _ _ (hpre c))

/-- Everything the certificate claims. -/
theorem claim : Cert.Claim :=
  ⟨Cert.Kernel.Gen.facts, Cert.KernelIdeal.Gen.facts, Cert.ReferenceIdeal.Gen.facts, Cert.Pre_in_table.Gen.facts,
    frame_kernel, frame_kernel_ideal, frame_kernel_ideal_pre, frame_reference, frame_reference_pre, trivial, algebraic⟩

end Cert.Proof

end
